-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Reference (m : (ℓ : Loc Cert.Reference.nD Cert.Reference.τ Cert.Reference.sig) → Buf (Elt Bits) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_Reference [hReference : Cert.Reference.Facts] : Prop :=
  ∀ (m : (ℓ : Loc Cert.Reference.nD Cert.Reference.τ Cert.Reference.sig) → Buf (Elt Bits) ℓ) (g : Dev Cert.Reference.nD → PrngReg), Pre_Reference m →
    θ_run (Cert.Reference.defs (F := Bits)) (onTc (τ := Cert.Reference.τ) (Cert.Reference.main (F := Bits))) ⟨m, fun _ => 0, g⟩ (fun r => (∀ c : Dev Cert.Reference.nD,
      r.2.mem ((c.tc : Thread Cert.Reference.nD Cert.Reference.τ).loc Cert.Reference.main_arg0) = m ((c.tc : Thread Cert.Reference.nD Cert.Reference.τ).loc Cert.Reference.main_arg0)
      ∧ r.2.mem ((c.tc : Thread Cert.Reference.nD Cert.Reference.τ).loc Cert.Reference.main_arg1) = m ((c.tc : Thread Cert.Reference.nD Cert.Reference.τ).loc Cert.Reference.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v6) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def bitexact_Kernel_Reference [hKernel : Cert.Kernel.Facts] [hReference : Cert.Reference.Facts] : Prop :=
  ∀ (m : (ℓ : Loc Cert.Kernel.nD Cert.Kernel.τ Cert.Kernel.sig) → Buf (Elt Bits) ℓ) (g : Dev Cert.Kernel.nD → PrngReg)
    (m' : (ℓ : Loc Cert.Reference.nD Cert.Reference.τ Cert.Reference.sig) → Buf (Elt Bits) ℓ) (g' : Dev Cert.Reference.nD → PrngReg), Pre_Kernel m →
    (∀ c : Dev Cert.Kernel.nD,
      m' ((c.tc : Thread Cert.Reference.nD Cert.Reference.τ).loc Cert.Reference.main_arg0) = m ((c.tc : Thread Cert.Kernel.nD Cert.Kernel.τ).loc Cert.Kernel.main_arg0)
      ∧ m' ((c.tc : Thread Cert.Reference.nD Cert.Reference.τ).loc Cert.Reference.main_arg1) = m ((c.tc : Thread Cert.Kernel.nD Cert.Kernel.τ).loc Cert.Kernel.main_arg1)) →
    ∃ (v0 : (c : Dev Cert.Kernel.nD) → Buf (Elt Bits) ((c.tc : Thread Cert.Kernel.nD Cert.Kernel.τ).loc Cert.Kernel.main_v1)),
      θ_run (Cert.Kernel.defs (F := Bits)) (Cert.Kernel.threads (F := Bits)) ⟨m, fun _ => 0, g⟩ (fun r => ∀ c : Dev Cert.Kernel.nD,
          r.2.mem ((c.tc : Thread Cert.Kernel.nD Cert.Kernel.τ).loc Cert.Kernel.main_v1) = v0 c
          ∧ r.2.mem ((c.tc : Thread Cert.Kernel.nD Cert.Kernel.τ).loc Cert.Kernel.main_arg0) = m ((c.tc : Thread Cert.Kernel.nD Cert.Kernel.τ).loc Cert.Kernel.main_arg0)
          ∧ r.2.mem ((c.tc : Thread Cert.Kernel.nD Cert.Kernel.τ).loc Cert.Kernel.main_arg1) = m ((c.tc : Thread Cert.Kernel.nD Cert.Kernel.τ).loc Cert.Kernel.main_arg1))
      ∧ θ_run (Cert.Reference.defs (F := Bits)) (onTc (τ := Cert.Reference.τ) (Cert.Reference.main (F := Bits))) ⟨m', fun _ => 0, g'⟩ (fun r => ∀ c : Dev Cert.Reference.nD,
          r.2.mem ((c.tc : Thread Cert.Reference.nD Cert.Reference.τ).loc Cert.Reference.main_v6) = v0 c
          ∧ r.2.mem ((c.tc : Thread Cert.Reference.nD Cert.Reference.τ).loc Cert.Reference.main_arg0) = m' ((c.tc : Thread Cert.Reference.nD Cert.Reference.τ).loc Cert.Reference.main_arg0)
          ∧ r.2.mem ((c.tc : Thread Cert.Reference.nD Cert.Reference.τ).loc Cert.Reference.main_arg1) = m' ((c.tc : Thread Cert.Reference.nD Cert.Reference.τ).loc Cert.Reference.main_arg1))

def Claim : Prop :=
  ∃ (hKernel : Cert.Kernel.Facts) (hKernelIdeal : Cert.KernelIdeal.Facts) (hReferenceIdeal : Cert.ReferenceIdeal.Facts) (hReference : Cert.Reference.Facts),
    quiescent_Kernel (hKernel := hKernel)
    ∧ quiescent_KernelIdeal (hKernelIdeal := hKernelIdeal)
    ∧ quiescent_ReferenceIdeal (hReferenceIdeal := hReferenceIdeal)
    ∧ quiescent_Reference (hReference := hReference)
    ∧ preserves_Kernel_KernelIdeal
    ∧ algebraic_KernelIdeal_ReferenceIdeal (hKernelIdeal := hKernelIdeal) (hReferenceIdeal := hReferenceIdeal)
    ∧ bitexact_Kernel_Reference (hKernel := hKernel) (hReference := hReference)
-- ==== Kernel.lean ====
abbrev S4x8192x128 : Shape := ⟨3, ![4, 8192, 128]⟩
abbrev S8192x128 : Shape := ⟨2, ![8192, 128]⟩
abbrev S_ : Shape := ⟨0, ![]⟩
abbrev S4096x128 : Shape := ⟨2, ![4096, 128]⟩
abbrev S1x8192x128 : Shape := ⟨3, ![1, 8192, 128]⟩

abbrev nBuf : Table → Nat
  | .hbm => 4
  | _ => 0

abbrev bufTy : (tb : Table) → Fin (nBuf tb) → BufTy
  | .hbm, ⟨0, _⟩ => ⟨S4x8192x128, .f32⟩
  | .hbm, ⟨1, _⟩ => ⟨S8192x128, .f32⟩
  | .hbm, ⟨2, _⟩ => ⟨S8192x128, .f32⟩
  | .hbm, ⟨3, _⟩ => ⟨S1x8192x128, .f32⟩
  | _, _ => ⟨S4x8192x128, .f32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 1 → Bool
  | ⟨0, _⟩ => false
  | _ => false

abbrev sig : RefSig :=
  ofTables nBuf rfl bufTy 4 1 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_arg1_scs : Ref sig .scScalar := ⟨.hbm, 1, rfl⟩
abbrev main_v0_scs : Ref sig .scScalar := ⟨.hbm, 2, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨1, ![2], ![false]⟩

def k0_off1 (i : grid0.Coords) : Fin 2 → Nat :=
  let arg0 : BitVec 32 := BitVec.ofNat 32 (i 0).val
  let c4096_i32 : BitVec 32 := 4096#32
  let v0 : BitVec 32 := Scalar.muli arg0 c4096_i32
  let c0_i32_r0 : BitVec 32 := 0#32
  ![v0.toNat, 0]
abbrev scKind : Fin 1 → Kind := fun | 0 => .scScalar | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 0 | ⟨_ + 1, h⟩ => absurd h (Nat.not_lt.2 (Nat.le_add_left _ _))
-- ==== Reference.lean ====
abbrev S4x8192x128 : Shape := ⟨3, ![4, 8192, 128]⟩
abbrev S8192x128 : Shape := ⟨2, ![8192, 128]⟩
abbrev S8192 : Shape := ⟨1, ![8192]⟩
abbrev S_ : Shape := ⟨0, ![]⟩
abbrev S1x8192 : Shape := ⟨2, ![1, 8192]⟩
abbrev S1x8192x1 : Shape := ⟨3, ![1, 8192, 1]⟩
abbrev S1 : Shape := ⟨1, ![1]⟩
abbrev S1x1x1 : Shape := ⟨3, ![1, 1, 1]⟩
abbrev S1x8192x128 : Shape := ⟨3, ![1, 8192, 128]⟩

abbrev nBuf : Space → Nat
  | .hbm => 33
  | .vmem => 0
  | .smem => 0
  | _ => 0

abbrev bufTy : (tb : Table) → Fin (tcTables nBuf tb) → BufTy
  | .hbm, ⟨0, _⟩ => ⟨S4x8192x128, .f32⟩
  | .hbm, ⟨1, _⟩ => ⟨S8192x128, .f32⟩
  | .hbm, ⟨2, _⟩ => ⟨S8192, .i32⟩
  | .hbm, ⟨3, _⟩ => ⟨S_, .i32⟩
  | .hbm, ⟨4, _⟩ => ⟨S8192, .i32⟩
  | .hbm, ⟨5, _⟩ => ⟨S8192, .i32⟩
  | .hbm, ⟨6, _⟩ => ⟨S_, .i32⟩
  | .hbm, ⟨7, _⟩ => ⟨S8192, .i32⟩
  | .hbm, ⟨8, _⟩ => ⟨S8192, .i32⟩
  | .hbm, ⟨9, _⟩ => ⟨S1x8192, .i32⟩
  | .hbm, ⟨10, _⟩ => ⟨S_, .i32⟩
  | .hbm, ⟨11, _⟩ => ⟨S1x8192, .i32⟩
  | .hbm, ⟨12, _⟩ => ⟨S1x8192, .i1⟩
  | .hbm, ⟨13, _⟩ => ⟨S_, .i32⟩
  | .hbm, ⟨14, _⟩ => ⟨S1x8192, .i32⟩
  | .hbm, ⟨15, _⟩ => ⟨S1x8192, .i32⟩
  | .hbm, ⟨16, _⟩ => ⟨S1x8192, .i32⟩
  | .hbm, ⟨17, _⟩ => ⟨S1x8192x1, .i32⟩
  | .hbm, ⟨18, _⟩ => ⟨S1, .i32⟩
  | .hbm, ⟨19, _⟩ => ⟨S_, .i32⟩
  | .hbm, ⟨20, _⟩ => ⟨S1x8192x1, .i32⟩
  | .hbm, ⟨21, _⟩ => ⟨S1x8192x1, .i1⟩
  | .hbm, ⟨22, _⟩ => ⟨S1x1x1, .i32⟩
  | .hbm, ⟨23, _⟩ => ⟨S1x8192x1, .i32⟩
  | .hbm, ⟨24, _⟩ => ⟨S1x8192x1, .i1⟩
  | .hbm, ⟨25, _⟩ => ⟨S1x8192x1, .i1⟩
  | .hbm, ⟨26, _⟩ => ⟨S_, .i1⟩
  | .hbm, ⟨27, _⟩ => ⟨S1x8192, .i1⟩
  | .hbm, ⟨28, _⟩ => ⟨S1x8192x128, .f32⟩
  | .hbm, ⟨29, _⟩ => ⟨S1x8192x128, .i1⟩
  | .hbm, ⟨30, _⟩ => ⟨S_, .f32⟩
  | .hbm, ⟨31, _⟩ => ⟨S1x8192x128, .f32⟩
  | .hbm, ⟨32, _⟩ => ⟨S1x8192x128, .f32⟩
  | _, _ => ⟨S4x8192x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_c : Ref sig .tc := ⟨.hbm, 3, rfl⟩
abbrev main_v1 : Ref sig .tc := ⟨.hbm, 4, rfl⟩
abbrev main_v2 : Ref sig .tc := ⟨.hbm, 5, rfl⟩
abbrev main_c_0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_call0_c : Ref sig .tc := ⟨.hbm, 10, rfl⟩
abbrev main_call0_v0 : Ref sig .tc := ⟨.hbm, 11, rfl⟩
abbrev main_call0_v1 : Ref sig .tc := ⟨.hbm, 12, rfl⟩
abbrev main_call0_c_0 : Ref sig .tc := ⟨.hbm, 13, rfl⟩
abbrev main_call0_v2 : Ref sig .tc := ⟨.hbm, 14, rfl⟩
abbrev main_call0_v3 : Ref sig .tc := ⟨.hbm, 15, rfl⟩
abbrev main_call0_v4 : Ref sig .tc := ⟨.hbm, 16, rfl⟩
abbrev main_call0_v5 : Ref sig .tc := ⟨.hbm, 17, rfl⟩
abbrev main_call0_c_1 : Ref sig .tc := ⟨.hbm, 18, rfl⟩
abbrev main_call0_c_2 : Ref sig .tc := ⟨.hbm, 19, rfl⟩
abbrev main_call0_v6 : Ref sig .tc := ⟨.hbm, 20, rfl⟩
abbrev main_call0_v7 : Ref sig .tc := ⟨.hbm, 21, rfl⟩
abbrev main_call0_v8 : Ref sig .tc := ⟨.hbm, 22, rfl⟩
abbrev main_call0_v9 : Ref sig .tc := ⟨.hbm, 23, rfl⟩
abbrev main_call0_v10 : Ref sig .tc := ⟨.hbm, 24, rfl⟩
abbrev main_call0_v11 : Ref sig .tc := ⟨.hbm, 25, rfl⟩
abbrev main_call0_c_3 : Ref sig .tc := ⟨.hbm, 26, rfl⟩
abbrev main_call0_v12 : Ref sig .tc := ⟨.hbm, 27, rfl⟩
abbrev main_call0_v13 : Ref sig .tc := ⟨.hbm, 28, rfl⟩
abbrev main_call0_v14 : Ref sig .tc := ⟨.hbm, 29, rfl⟩
abbrev main_call0_cst : Ref sig .tc := ⟨.hbm, 30, rfl⟩
abbrev main_call0_v15 : Ref sig .tc := ⟨.hbm, 31, rfl⟩
abbrev main_v6 : Ref sig .tc := ⟨.hbm, 32, rfl⟩

abbrev nD : Nat := 1
abbrev τ : Topo := Topo.v7x

variable {F : FTy → Type} [FloatOps F]
-- ==== Proof.KernelRun.lean ====
/-
  The kernel's run, over any float interpretation: a scalar-subcore mesh of two SparseCores, on each of which the
  sequencer copies its half of the table's rows straight to the same rows of the result by one transfer that it
  then waits for; @main puts a leading unit axis on the result. Proved here: every fair run ends, faults nowhere,
  leaves both arguments as they were and every semaphore at zero, and leaves in the result the table under that
  unit axis.

  The table and the call's result are each held as two halves of 4096 rows (`half`). The call hands SparseCore `c`
  half `c` of both, and takes back half `c` of both, the result's half now holding the table's entries; the two
  halves join to the whole arrays.
-/
module

public import proofs.«01_k».proof.Defs
public import Idealize.ShloMosaic.Lib.SparseCore.Quiescent
public import Idealize.ShloMosaic.Lib.StableHlo.Run
public import Idealize.ShloMosaic.Lib.Pipeline.Kit
public import Idealize.ShloMosaic.Lib.Tactic
public import Idealize.ShloMosaic.Lib.Ring
public import proofs.«01_k».proof.Proof.Gen.KernelIdeal

@[expose] public section

noncomputable section

namespace Cert.Proof.KernelRun

open Cert.KernelIdeal Cert.KernelIdeal.Gen

open Idealize.ShloMosaic
open Idealize.ShloMosaic.SparseCore (S V T)
open Idealize.ShloMosaic.SparseCore.Cfg (HIx Pay ownSems0 ownCells mem_ownCells)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held wp_hlo_within)
open Idealize.ShloMosaic.Tactic

variable {F : FTy → Type}

/-! ## The program as the launch theorem takes it -/

abbrev ΛP : Labels := Pipeline.Sig Λ₀ (Fin 0) fun p => (pcfgs (F := F) p).Adm
abbrev K : SparseCore.Cfg τ sig (ΛP (F := F)) 1 := sc (F := F)
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

/-- The launch's semaphores are distinct and outlive the call, and no array is a task's. -/
theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide,
    show (SemLoc.reg sc_go : SemLoc sig).isScoped .scVector = false by decide,
    show (SemLoc.reg sc_done : SemLoc sig).isScoped .tc = false by decide,
    show ∀ (b : DevRef τ sig) (c : Fin τ.nSC), b.owner = .sc c → sig.taskShared b.table b.idx = false by decide,
    fun _ => rfl⟩

/-- The ghost state: the launch's handshakes beside the transfers' counters. -/
abbrev UH : Type := URounds (GSem nD τ sig) ℕ
abbrev UU : Type := UH × Counters

local notation "𝕄" => MT nD τ sig (HIx 1) (Elt F) ℕ UU ℕ

abbrev EH : Emb UH (MT nD τ sig (HIx 1) (Elt F) ℕ UU ℕ) := embL

/-! ## The arrays and their halves -/

variable (m : (ℓ : Loc nD τ sig) → Buf (Elt F) ℓ) (ρ : Dev nD → PrngReg)

/-- `x`, which the kernel does not read; the table; the call's result; @main's result. -/
abbrev xLoc (d : Dev nD) : Loc nD τ sig := (SparseCore.T d).loc main_arg0
abbrev tLoc (d : Dev nD) : Loc nD τ sig := (SparseCore.T d).loc main_arg1
abbrev oLoc (d : Dev nD) : Loc nD τ sig := (SparseCore.T d).loc main_v0
abbrev rLoc (d : Dev nD) : Loc nD τ sig := (SparseCore.T d).loc main_v1

-- the two arrays as the sequencer's code names them
local notation "tW" => (Memref.whole Cert.KernelIdeal.main_arg1_scs : Memref Cert.KernelIdeal.sig Kind.scScalar Space.hbm Cert.KernelIdeal.S8192x128 EltTy.f32)
local notation "oW" => (Memref.whole Cert.KernelIdeal.main_v0_scs : Memref Cert.KernelIdeal.sig Kind.scScalar Space.hbm Cert.KernelIdeal.S8192x128 EltTy.f32)

/-- SparseCore `c`'s coordinates in the mesh. -/
def coordsS (c : Fin (grid0.bound 0)) : grid0.Coords := fun | 0 => c | ⟨_ + 1, h⟩ => absurd h (Nat.not_lt.2 (Nat.le_add_left _ _))

/-- The rectangle SparseCore `c` copies, as its code spells it. -/
abbrev rectS (c : Fin (grid0.bound 0)) : Rect S8192x128 := Rect.unit (s := S8192x128) (k0_off1 (coordsS c)) S4096x128.size (k0_off1_inb (coordsS c))

/-- Half `n` of the rows: rows `4096 n` to `4096 n + 4095`, every column. -/
def half (n : Nat) : Finset S8192x128.Idx := Finset.univ.filter fun i => 4096 * n ≤ (i 0).val ∧ (i 0).val < 4096 * n + 4096

/-- What SparseCore `c` copies is half `c`. -/
theorem rectS_set (c : Fin (grid0.bound 0)) : (rectS c).set = half c.val := by
  have hoff : k0_off1 (coordsS c) = ![4096 * c.val, 0] := k0_off1_eq (coordsS c)
  ext i
  rw [Rect.mem_set_unit, half, Finset.mem_filter]
  constructor
  · intro h
    have h0 := h 0
    rw [hoff] at h0
    exact ⟨Finset.mem_univ _, h0⟩
  · rintro ⟨-, h⟩ a
    rw [hoff]
    match a with
    | ⟨0, _⟩ => exact h
    | ⟨1, _⟩ => exact ⟨Nat.zero_le _, by have := (i 1).isLt; show (i 1).val < 0 + 128; rw [Nat.zero_add]; exact this⟩

/-- The two halves share no row. -/
theorem half_disjoint (b b' : Fin 2) (h : b ≠ b') : Disjoint (half b.val) (half b'.val) := by
  rw [Finset.disjoint_left]
  intro i hi hi'
  simp only [half, Finset.mem_filter, Finset.mem_univ, true_and] at hi hi'
  exact h (Fin.ext (by omega))

/-- Every row is in one of them. -/
theorem half_cover : (Finset.univ.biUnion fun b : Fin 2 => half b.val) = Finset.univ := by
  refine Finset.eq_univ_iff_forall.mpr fun i => Finset.mem_biUnion.mpr ?_
  have hi : (i 0).val < 8192 := (i 0).isLt
  refine ⟨⟨(i 0).val / 4096, by omega⟩, Finset.mem_univ _, ?_⟩
  simp only [half, Finset.mem_filter, Finset.mem_univ, true_and]
  omega

variable [FloatOps F]

/-- Half `n` of the table at its launch contents; half `n` of the call's result at `f`. -/
abbrev tHalf (d : Dev nD) (n : Nat) : sProp 𝕄 := tLoc d ↦[half n]{fullShare} m (tLoc d)
abbrev oHalf (d : Dev nD) (n : Nat) (f : Buf (Elt F) (oLoc d)) : sProp 𝕄 := oLoc d ↦[half n]{fullShare} f

/-- The table's launch contents, as contents of the call's result (the two arrays have one shape and one type). -/
abbrev copied (d : Dev nD) : Buf (Elt F) (oLoc d) := (m (tLoc d) : S8192x128.Idx → Elt F .f32)

/-- What the call hands each SparseCore and takes back: half `c` of both arrays, the result's first as it was at
    launch, then at the table's contents. -/
def P : (K (F := F)).Pay (nD := nD) (Val := Elt F) (Name := ℕ) (U := UU) where
  st := fun _ d c => iprop(tHalf m d c.val ∗ oHalf d c.val (m (oLoc d)))
  dn := fun _ d c => iprop(tHalf m d c.val ∗ oHalf d c.val (copied m d))
  go := fun _ _ _ _ => iprop(emp)
  td := fun _ _ _ _ => iprop(emp)
  x := fun _ _ => iprop(emp)

instance P_storable : (P (F := F) m).IsStorable where
  st _ d c := by unfold P; infer_instance
  dn _ d c := by unfold P; infer_instance
  go _ _ _ _ := by unfold P; infer_instance
  td _ _ _ _ := by unfold P; infer_instance

/-! ## One sequencer's copy -/

section Body

variable (d : Dev nD) (c : Fin (grid0.bound 0))

/-- SparseCore `c`'s sequencer. -/
abbrev Sq : Thread nD τ := S d (c.castLE hcore0)

/-- The copy's two ends, as the code spells them. -/
abbrev srcM : Memref sig .scScalar .hbm S4096x128 .f32 := (tW).slice (rectS c) (fun _ => rfl)
abbrev dstM : Memref sig .scScalar .hbm S4096x128 .f32 := (oW).slice (rectS c) (fun _ => rfl)

/-- The one DMA semaphore the copy signals. -/
abbrev csem : DmaSem sig := ⟨0, by decide⟩

omit [FloatOps F] in
/-- The sequencer's own semaphores at zero: the copy's, and the rest. -/
theorem ownSems0_S : (ownSems0 (Sq d c) : sProp 𝕄)
    = iprop(semVal (Sq d c, SemLoc.dma csem) 0 ∗ bigSep ((ownCells (Sq d c)).erase (Sq d c, SemLoc.dma csem)) fun g => semVal g 0) := by
  have hmem : ((Sq d c, SemLoc.dma csem) : GSem nD τ sig) ∈ ownCells (Sq d c) :=
    mem_ownCells.mpr ⟨rfl, (show ∀ s : DmaSem sig, (SemLoc.dma s : SemLoc sig).isScoped .scScalar = true by decide) _⟩
  unfold SparseCore.Cfg.ownSems0
  exact SparseCore.bigSep_erase' hmem

omit [FloatOps F] in
/-- The source's elements are half `c` of the table, the destination's half `c` of the result. -/
theorem pts_t (f : Buf (Elt F) (tLoc d)) :
    ((srcM c).view.loc (Sq d c) ↦[(srcM c).view.set]{fullShare} f : sProp 𝕄) = tLoc d ↦[half c.val]{fullShare} f := by
  rw [show (srcM c).view.set = half c.val from (View.set_slice_whole _ _).trans (rectS_set c)]
omit [FloatOps F] in
theorem pts_o (f : Buf (Elt F) (oLoc d)) :
    ((dstM c).view.loc (Sq d c) ↦[(dstM c).view.set]{fullShare} f : sProp 𝕄) = oLoc d ↦[half c.val]{fullShare} f := by
  rw [show (dstM c).view.set = half c.val from (View.set_slice_whole _ _).trans (rectS_set c)]

omit [FloatOps F] in
/-- Where the copy has written what it read of the table, the result holds the table's entry of the same row and
    column. -/
theorem copied_at (fo : Buf (Elt F) (oLoc d)) (w : S4096x128.Idx → Elt F .f32)
    (hw : w = (srcM c).view.read (Elt F) (m (tLoc d))) (i : S8192x128.Idx) (hi : i ∈ half c.val) :
    (dstM c).view.writes (Elt F) fo [⟨Rect.whole S4096x128, w⟩] i = copied m d i := by
  subst hw
  rw [← rectS_set, ← View.set_slice_whole main_v0_scs (rectS c)] at hi
  obtain ⟨x, -, rfl⟩ := Finset.mem_map.mp hi
  have h := View.read_writes_cons_emb (dstM c).view fo (Rect.whole S4096x128) ((srcM c).view.read (Elt F) (m (tLoc d))) [] x
  rw [Rect.emb_whole_apply, View.read_apply, View.read_apply, cast_eq, cast_eq] at h
  exact h

omit [FloatOps F] in
/-- So the result's half holds the table's entries. -/
theorem pts_copied (fo : Buf (Elt F) (oLoc d)) (w : S4096x128.Idx → Elt F .f32)
    (hw : w = (srcM c).view.read (Elt F) (m (tLoc d))) :
    ((dstM c).view.loc (Sq d c) ↦[(dstM c).view.set]{fullShare}
        (dstM c).view.writes (Elt F) fo [⟨Rect.whole S4096x128, w⟩] : sProp 𝕄)
      = oHalf d c.val (copied m d) := by
  rw [pts_o]
  exact pointsTo_congr (copied_at m d c fo w hw)

/-- The sequencer's code, from half `c` of both arrays, the semaphore at zero and what the sequencer owes, ends with
    the table's half as it was and the result's half at the table's entries. -/
theorem copy_run (O : CellTallies nD τ sig (HIx 1)) (W : Waits sig (HIx 1)) (fo : Buf (Elt F) (oLoc d)) :
    (iprop(Transfers.MayWaits (Sq d c) (none : HIx 1) O
        ∗ tHalf m d c.val
        ∗ oHalf d c.val fo
        ∗ semVal (Sq d c, SemLoc.dma csem) 0
        ∗ owes (Sq d c) O W) : sProp 𝕄)
      ⊢ wp frame (wpE (defs₀ (F := F)) 𝒱₀ (Sq d c) none) Set.univ
          (cc0_copy_k (coordsS c) tW (Memref.isWhole_whole _) oW (Memref.isWhole_whole _) cc0_scoped0)
          fun _ => iprop(tHalf m d c.val
            ∗ oHalf d c.val (copied m d)
            ∗ semVal (Sq d c, SemLoc.dma csem) 0
            ∗ ∃ W', owes (Sq d c) O W') := by
  unfold tHalf oHalf
  rw [← pts_t, ← pts_o]
  iintro ⟨#Hmw, Ht, Ho, Hc, HO⟩
  sl_unfold [cc0_copy_k]
  sl_exec (disch := exact View.amount_pos _ _ (show 0 < S4096x128.numel by decide))
  sl_step
  isplitl [Ht]; · iexact Ht
  isplitl [Ho]
  · ihave Ho' := (Entails.of_eq (pts_copied m d c fo (copy_run.sl.dma0 m d c) rfl)) $$ Ho
    iexact Ho'
  isplitl [Hc]; · iexact Hc
  iexists _; iexact HO

/-- The same from what the launch hands the sequencer: its buffers are none of the copy's, of its semaphores the copy
    uses one. -/
theorem body (hF : (K (F := F)).Facts) (O : CellTallies nD τ sig (HIx 1)) (W : Waits sig (HIx 1)) (hO : ∀ g, O g none = 0) :
    iprop(levAts (K (F := F)).L (K (F := F)).lev ∗ emp ∗ (tHalf m d c.val ∗ oHalf d c.val (m (oLoc d)))
        ∗ scopedBufs (Sq d c) ∗ scopedSems0 (Sq d c) ∗ owes (Sq d c) O W)
      ⊢ wp frame (wpE (defs₀ (F := F)) 𝒱₀ (Sq d c) none) Set.univ
          (cc0_copy_k (coordsS c) tW (Memref.isWhole_whole _) oW (Memref.isWhole_whole _) cc0_scoped0)
          fun _ => iprop((tHalf m d c.val ∗ oHalf d c.val (copied m d)) ∗ scopedBufs (Sq d c) ∗ scopedSems0 (Sq d c)
            ∗ ∃ W', ⌜∀ p ∈ W', p ∈ W ∨ p.2 = none ∨ p.2 = some (0 : Fin 1)⌝ ∗ owes (Sq d c) O W') := by
  rw [SparseCore.Cfg.scopedSems0_S (Val := Elt F) d _, ownSems0_S]
  iintro ⟨#Hlv, -, ⟨Ht, Ho⟩, Hbufs, ⟨⟨Hc, Hsems⟩, HtileSems⟩, HO⟩
  ihave Hmw := ((K (F := F)).mayWaits_none (thr := Sq d c) hO) $$ Hlv
  iapply (wp_wand_r Idealize.ShloMosaic.frame (wpE (defs₀ (F := F)) 𝒱₀ (Sq d c) none) Set.univ)
  isplitl [Ht Ho Hc HO]
  · iapply (copy_run m d c O W _)
    isplitr; · iexact Hmw
    isplitl [Ht]; · iexact Ht
    isplitl [Ho]; · iexact Ho
    isplitl [Hc]; · iexact Hc
    iexact HO
  iintro %_ ⟨Ht, Ho, Hc, %W', HO⟩
  isplitl [Ht Ho]; · isplitl [Ht] <;> iassumption
  isplitl [Hbufs]; · iexact Hbufs
  isplitl [Hc Hsems HtileSems]
  · isplitl [Hc Hsems]
    · isplitl [Hc] <;> iassumption
    iexact HtileSems
  iexists W'; isplitr
  · ipureintro; intro p _
    rcases p.2 with _ | q
    · exact .inr (.inl rfl)
    · exact .inr (.inr (congrArg some (Subsingleton.elim q 0)))
  · iexact HO

end Body

/-! ## The launch -/

theorem defs₀_scalar (c : Fin τ.nSC) :
    defs₀ (F := F) (.scScalar c) 0 ()
      = SparseCore.onCore hcore0 (fun c => cc0_copy_k (coordsS c) tW (Memref.isWhole_whole _) oW (Memref.isWhole_whole _) cc0_scoped0) ⟨⟩ c := rfl

/-- Each SparseCore's sequencer, at the call, runs its copy. -/
theorem scalarObl : (K (F := F)).ScalarObl (D (F := F)) 𝒱 (P m) v₀ 0 := by
  intro d c O W hO _ _
  simp only [show (P m).ox = fun _ _ => 0 from rfl, add_zero]
  change _ ⊢ wp _ _ _ (Pipeline.liftProg (defs₀ (F := F) (.scScalar ((K (F := F)).core 0 c)) 0 ())) _
  refine BI.Entails.trans ?_ (Pipeline.wp_liftProg (D (F := F)) (Pipeline.defs_kernel pcfgs defs₀) 𝒱₀ _ Set.univ none _ _)
  have hc : ((K (F := F)).core 0 c).val < grid0.bound 0 := c.isLt
  rw [defs₀_scalar]; simp only [SparseCore.onCore, hc, ↓reduceDIte]
  exact body m d ⟨c.val, hc⟩ facts O W hO

/-- The ghost state at launch: the handshakes' rounds; nothing of the kernel's own. -/
def u₀ : UU := (initOf (K (F := F)).hsCells (K (F := F)).hsToks, 1)

omit [FloatOps F] in
theorem bigSep_emp' {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  unfold u₀
  iintro Hu
  ihave H := (ownU_pair (initOf (K (F := F)).hsCells (K (F := F)).hsToks) (1 : Counters)) $$ Hu
  icases H with ⟨HH, -⟩
  imodintro
  isplitl [HH]; · iexact HH
  isplitr; · rw [bigSep_emp']; iempintro
  rw [show (bigSep Finset.univ fun thr : Thread nD τ => bigSep Finset.univ fun q : Fin 1 => (P (F := F) m).x q thr) = bigSep Finset.univ fun _ => iprop(emp) from
    bigSep_congr fun _ _ => bigSep_univ_of_subsingleton (0 : Fin 1), bigSep_emp']
  iempintro

/-! ## @main -/

abbrev x' : DevRef τ sig := Proc.devRef .tc (main_arg0 : Ref sig .tc)
abbrev t' : DevRef τ sig := Proc.devRef .tc (main_arg1 : Ref sig .tc)
abbrev o' : DevRef τ sig := Proc.devRef .tc (main_v0 : Ref sig .tc)
abbrev r' : DevRef τ sig := Proc.devRef .tc (main_v1 : Ref sig .tc)

/-- The unit axis put in front of the call's result. -/
abbrev lead (f : (⟨S8192x128, .f32⟩ : BufTy).Contents (Elt F)) : (⟨S1x8192x128, .f32⟩ : BufTy).Contents (Elt F) :=
  broadcastInDim S1x8192x128 ![1, 2] bcast_S8192x128_S1x8192x128_1_2 f
abbrev opLead : HloOp τ sig (Elt F) := StableHlo.unary main_v0 main_v1 (lead (F := F))

omit [FloatOps F] in
/-- What the launch leaves @main: the two arguments, the call's result and @main's, each whole. -/
theorem unscopedBufs_eq (d : Dev nD) (W : (b : Ref sig .tc) → Buf (Elt F) ((d.tc : Thread nD τ).loc b)) :
    (unscopedBufs d W : sProp 𝕄) = iprop((xLoc d ↦{fullShare} W main_arg0) ∗ (tLoc d ↦{fullShare} W main_arg1)
      ∗ (oLoc d ↦{fullShare} W main_v0) ∗ rLoc d ↦{fullShare} W main_v1) := by
  unfold unscopedBufs
  rw [show (Finset.univ.filter fun b : Ref sig .tc => ¬ b.isScoped) = {main_arg0, main_arg1, main_v0, main_v1} by decide,
    SparseCore.bigSep_insert' (by decide), SparseCore.bigSep_insert' (by decide), SparseCore.bigSep_insert' (by decide), bigSep_singleton]

/-- The two arrays the last operation touches. -/
abbrev S2 : Finset (DevRef τ sig) := {o', r'}

omit [FloatOps F] in
theorem held_S2 (d : Dev nD) (W : Valuation τ sig (Elt F)) :
    (held (SparseCore.T d) S2 W : sProp 𝕄) = iprop((oLoc d ↦{fullShare} W o') ∗ rLoc d ↦{fullShare} W r') := by
  unfold held S2
  rw [SparseCore.bigSep_insert' (by decide), bigSep_singleton]

/-- The arrays after the call: the result at the table's contents. -/
def V1 (d : Dev nD) : Valuation τ sig (Elt F) := Function.update (fun b => m (d, b)) o' (copied m d)

theorem V1_o (d : Dev nD) : V1 m d o' = copied m d := Function.update_self _ _ _
theorem V1_r (d : Dev nD) : V1 m d r' = m (rLoc d) := Function.update_of_ne (show r' ≠ o' by decide) _ _

/-- After the last operation, @main's result is the table under the unit axis. -/
theorem held_V2 (d : Dev nD) :
    (held (SparseCore.T d) S2 ((opLead (F := F)).result (V1 m d)) : sProp 𝕄)
      = iprop((oLoc d ↦{fullShare} (opLead (F := F)).result (V1 m d) o') ∗ rLoc d ↦{fullShare} lead (copied m d)) := by
  rw [held_S2, show (opLead (F := F)).result (V1 m d) r' = lead (copied m d) by
    rw [StableHlo.unary_result, V1_o]]

/-- The two halves of both arrays are the two arrays. -/
theorem halves (d : Dev nD) (f : Buf (Elt F) (oLoc d)) :
    (bigSep Finset.univ fun c : Fin 2 => iprop(tHalf m d c.val ∗ oHalf d c.val f) : sProp 𝕄)
      = iprop((tLoc d ↦{fullShare} m (tLoc d)) ∗ oLoc d ↦{fullShare} f) := by
  rw [bigSep_sep' (Finset.univ : Finset (Fin 2)),
    ← Ring.pointsTo_blocks (ℓ := tLoc d) (fun b : Fin 2 => half b.val) half_disjoint half_cover (m (tLoc d)),
    ← Ring.pointsTo_blocks (ℓ := oLoc d) (fun b : Fin 2 => half b.val) half_disjoint half_cover f]

/-- What the call takes, and what it hands back. -/
theorem st0_eq (d : Dev nD) : (bigSep Finset.univ fun c : Fin ((K (F := F)).nCore 0) => (P m).st 0 d c)
    = iprop((tLoc d ↦{fullShare} m (tLoc d)) ∗ oLoc d ↦{fullShare} m (oLoc d)) := halves m d _
theorem dn0_eq (d : Dev nD) : (bigSep Finset.univ fun c : Fin ((K (F := F)).nCore 0) => (P m).dn 0 d c)
    = iprop((tLoc d ↦{fullShare} m (tLoc d)) ∗ oLoc d ↦{fullShare} copied m d) := halves m d _

theorem hLead : (opLead (F := F)).bufs ⊆ S2 := show ({o', r'} : Finset (DevRef τ sig)) ⊆ S2 by decide

/-- What @main ends with: both arguments at their launch contents, the result at the table under the unit axis. -/
abbrev FIN (d : Dev nD) : sProp 𝕄 :=
  iprop((xLoc d ↦{fullShare} m (xLoc d)) ∗ (tLoc d ↦{fullShare} m (tLoc d)) ∗ rLoc d ↦{fullShare} lead (copied m d))

/-- @main: the call, from the table and the result's buffer, then the unit axis. -/
theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [unscopedBufs_eq]
  simp only [main, wp_bind, wp_pure]
  iintro ⟨#Hctx, Hst, ⟨Hb, ⟨Hx, Ht, Ho, Hr⟩, Hts, -⟩, -⟩
  iapply ((K (F := F)).wp_run (D (F := F)) 𝒱 (EH := EH) (P := P m) κ d 0) $$ [Hst Hx Ht Ho Hb Hr Hts]
  isplitr; · iexact Hctx
  isplitl [Hst]; · iexact Hst
  isplitl [Ht Ho]
  · rw [st0_eq]
    isplitl [Ht] <;> iassumption
  iintro ⟨Hst, Hdn⟩
  ihave Hdn' := (Entails.of_eq (dn0_eq m d)) $$ Hdn
  icases Hdn' with ⟨Ht, Ho⟩
  iapply (wp_hlo_within 𝒱 (SparseCore.T d) none Set.univ (op := opLead) (S := S2) hLead (V := V1 m d)) $$ [Hb Ho Hr]
  · isplitl [Hb]; · iexact Hb
    rw [held_S2, V1_o, V1_r]
    isplitl [Ho] <;> iassumption
  iintro ⟨Hb, Hheld⟩
  ihave Hh := (Entails.of_eq (held_V2 (F := F) m d)) $$ Hheld
  icases Hh with ⟨-, Hr⟩
  rw [wp_ret]; imodintro; imodintro
  isplitl [Hst]; · iexact Hst
  isplitr [Hb Hts]
  · isplitl [Hx]; · iexact Hx
    isplitl [Ht] <;> iassumption
  isplitl [Hb] <;> iassumption

/-- The same of the final memory. -/
def fq (d : Dev nD) (s' : Phys nD τ sig (Elt F)) : Prop :=
  s'.mem.mem (rLoc d) = lead (copied m d) ∧ s'.mem.mem (xLoc d) = m (xLoc d) ∧ s'.mem.mem (tLoc d) = m (tLoc d)

theorem hfin (d : Dev nD) (s' : Phys nD τ sig (Elt F)) : iprop(FIN m d ∗ SI s') ⊢ (⌜fq m d s'⌝ : sProp 𝕄) := by
  iintro ⟨⟨Hx, Ht, Hr⟩, HSI⟩
  icombine Hx HSI gives %hx
  icombine Ht HSI gives %ht
  icombine Hr HSI gives %hr
  ipureintro
  exact ⟨Buf.eq_of_forall_mem_univ hr, Buf.eq_of_forall_mem_univ hx, Buf.eq_of_forall_mem_univ ht⟩

/-! ## The run -/

/-- What a fair run ends with. -/
def QC : PUnit × MemSt nD τ sig (Elt F) → Prop := fun r =>
  (∀ d : Dev nD, r.2.mem (rLoc d) = lead (copied m d) ∧ r.2.mem (xLoc d) = m (xLoc d) ∧ r.2.mem (tLoc d) = m (tLoc d))
    ∧ r.2.sem = fun _ => 0

/-- Every fair run of the kernel ends, with the table under a unit axis in the result, both arguments as they were,
    and every semaphore at zero. -/
theorem run_main [∀ e, Nonempty (Elt F e)] :
    θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P m) (A := ∅) facts v₀
    (fun q _ => match q with | 0 => scalarObl m)
    (fun q hq => match q with | 0 => nomatch hq)
    (fun q hq => match q with | 0 => nomatch hq)
    m ρ main (fun _ => iprop(emp)) (FIN m) (u₀ (F := F)) (sep_elim_left.trans (hu₀ m)) (hmain m ρ) (fq m) (hfin m) (QC m) (fun _ h hz => ⟨h, hz⟩)

end Cert.Proof.KernelRun

end
-- ==== Proof.Take.lean ====
/-
  The reference's value: the rows of the table taken at the positions 0, 1, …, 8191 is the table itself, under a
  leading unit axis. The reference counts a negative position from the end, reads a row at each position, and puts
  a not-a-number in the rows whose position is outside the table; every position `p` it asks for is between 0 and
  8191, so none of this shows, and row `p` of its result is row `p` of the table. Over any float interpretation:
  entries are moved, never computed with.
-/
module

public import proofs.«01_k».proof.Defs
public import Idealize.ShloMosaic.Lib.StableHlo.Predicate
public import Idealize.ShloMosaic.Lib.ReduceAll
public import proofs.«01_k».proof.Proof.Gen.ReferenceIdeal

@[expose] public section

noncomputable section

namespace Cert.Proof.Take

open Cert.ReferenceIdeal Cert.ReferenceIdeal.Facts₀
open Idealize.ShloMosaic
open Idealize.ShloMosaic.StableHlo.Predicate (toInt_ofNat_small sle_iff_toNat slt_iff_toNat sge_iff_toNat)

/-- The positions asked for: `0 + 1 · p`. -/
def pos : IVec S1x8192 32 :=
  broadcastInDim S1x8192 ![1] bcast_S8192_S1x8192_1
    (addi (broadcastInDim S8192 ![] bcast_S_S8192 (constantI S_ 32 0#32))
      (muli (broadcastInDim S8192 ![] bcast_S_S8192 (constantI S_ 32 1#32)) (iotaInDim S8192 32 0)))

/-- The positions, a negative one counted from the end. -/
def wrapped : IVec S1x8192 32 :=
  select (cmpi .slt pos (broadcastInDim S1x8192 ![] bcast_S_S1x8192 (constantI S_ 32 0#32)))
    (addi pos (broadcastInDim S1x8192 ![] bcast_S_S1x8192 (constantI S_ 32 8192#32))) pos

/-- The same as the row numbers of a gather. -/
def rows : IVec S1x8192x1 32 := broadcastInDim S1x8192x1 ![0, 1] bcast_S1x8192_S1x8192x1_0_1 wrapped

/-- Which of them are rows of the table: at least 0, at most 8191. -/
def inside : IVec S1x8192 1 :=
  Host.reduce IntOp.andi
    (andi (cmpi .sge rows (broadcastInDim S1x8192x1 ![] bcast_S_S1x8192x1 (constantI S_ 32 0#32)))
      (cmpi .sle rows (broadcastInDim S1x8192x1 ![0, 1, 2] bcast_S1x1x1_S1x8192x1_0_1_2
        (broadcastInDim S1x1x1 ![2] bcast_S1_S1x1x1_2 (constantI S1 32 8191#32)))))
    (constantI S_ 1 1#1) reducesTo_S1x8192x1_S1x8192_d2 h_S_

/-- Position `p` is the number `p`. -/
theorem pos_apply (j : S1x8192.Idx) : pos j = BitVec.ofNat 32 (j 1).val := by
  show 0#32 + 1#32 * BitVec.ofNat 32 (j 1).val = _
  rw [BitVec.one_mul, BitVec.zero_add]

theorem pos_toNat (j : S1x8192.Idx) : (pos j).toNat = (j 1).val := by
  have h : (j 1).val < 8192 := (j 1).isLt
  rw [pos_apply, BitVec.toNat_ofNat]
  omega

/-- None is negative. -/
theorem wrapped_apply (j : S1x8192.Idx) : wrapped j = BitVec.ofNat 32 (j 1).val := by
  have h : (j 1).val < 8192 := (j 1).isLt
  have hp := pos_toNat j
  have hn : ¬ IntOp.cmpi .slt (pos j) 0#32 = 1#1 := by
    rw [slt_iff_toNat (by omega) (by decide), hp]
    exact Nat.not_lt_zero _
  show (if IntOp.cmpi .slt (pos j) 0#32 = 1#1 then _ else pos j) = _
  rw [if_neg hn, pos_apply]

theorem rows_apply (j : S1x8192x1.Idx) : rows j = BitVec.ofNat 32 (j 1).val := wrapped_apply _

/-- All are rows of the table. -/
theorem inside_apply (j : S1x8192.Idx) : inside j = 1#1 := by
  refine Host.reduce_andi_one _ _ _ _ j rfl fun i => ?_
  have h : (i 1).val < 8192 := (i 1).isLt
  have hr : (rows i).toNat = (i 1).val := by
    rw [rows_apply, BitVec.toNat_ofNat]; omega
  have h0 : IntOp.cmpi .sge (rows i) 0#32 = 1#1 := (sge_iff_toNat (by omega) (by decide)).2 (Nat.zero_le _)
  have h1 : IntOp.cmpi .sle (rows i) 8191#32 = 1#1 :=
    (sle_iff_toNat (by omega) (by decide)).2 (by rw [hr]; show (i 1).val ≤ 8191; omega)
  show IntOp.andi (IntOp.cmpi .sge (rows i) 0#32) (IntOp.cmpi .sle (rows i) 8191#32) = 1#1
  rw [h0, h1]; decide

local notation "gd" => gather_S8192x128_S1x8192x1_S1x8192x128_2_0_n_n_0_2_1128

/-- The gather reads, for row `p` of its result, the row number at `p`; -/
theorem siIdx_row (j : S1x8192x128.Idx) (c : Fin (gd).startIndexMap.length) : (((gd).siIdx j c) 1).val = (j 1).val := rfl

/-- so entry `(p, q)` of its result is the table's. -/
theorem gather_apply {α : Type} (t : S8192x128.Idx → α) (j : S1x8192x128.Idx) (i : S8192x128.Idx)
    (h0 : (i 0).val = (j 1).val) (h1 : (i 1).val = (j 2).val) : Host.gather gd t rows j = t i := by
  have hj : (j 1).val < 8192 := (j 1).isLt
  refine congrArg t (funext fun a => Fin.ext ?_)
  match a with
  | ⟨0, _⟩ =>
    show min (rows ((gd).siIdx j ⟨0, Nat.zero_lt_one⟩)).toInt.toNat (8192 - 1) + 0 + 0 = (i 0).val
    rw [rows_apply, siIdx_row, toInt_ofNat_small _ (by omega), h0]
    omega
  | ⟨1, _⟩ =>
    show 0 + 0 + (j 2).val = (i 1).val
    omega

/-- A select on a set bit is its first operand. -/
theorem select_on {α : Type} {s : Shape} (c : IVec s 1) (x y : s.Idx → α) (j : s.Idx) (h : c j = 1#1) : select c x y j = x j :=
  if_pos h

/-- The reference's value is the table under a leading unit axis, entry by entry. -/
theorem take {F : FTy → Type} [FloatOps F] (t : (⟨S8192x128, .f32⟩ : BufTy).Contents (Elt F))
    (hb : S8192x128.BroadcastsInDim S1x8192x128 (![1, 2] : Fin 2 → Fin S1x8192x128.rank)) :
    (select (broadcastInDim S1x8192x128 ![0, 1] bcast_S1x8192_S1x8192x128_0_1 inside) (Host.gather gd t rows)
        (broadcastInDim S1x8192x128 ![] bcast_S_S1x8192x128 (constant S_ .f32 0x7FC00000#32))
      : (⟨S1x8192x128, .f32⟩ : BufTy).Contents (Elt F))
      = broadcastInDim S1x8192x128 ![1, 2] hb t := by
  funext j
  have hc : broadcastInDim S1x8192x128 ![0, 1] bcast_S1x8192_S1x8192x128_0_1 inside j = 1#1 := inside_apply _
  refine Eq.trans (select_on _ _ _ j hc) ?_
  exact gather_apply t j _ rfl rfl

end Cert.Proof.Take

end
-- ==== Proof.lean ====
/-
  The seven claims of the certificate. The kernel's run is proved once, over any float interpretation
  (Proof/KernelRun.lean), and read here at machine floats and at exact numbers; the reference's value is the same
  table under a leading unit axis (Proof/Take.lean).
-/
module

public import proofs.«01_k».proof.Defs
public import proofs.«01_k».proof.Proof.Gen.Kernel
public import proofs.«01_k».proof.Proof.Gen.Kernel.Skeleton
public import proofs.«01_k».proof.Proof.Gen.KernelIdeal
public import proofs.«01_k».proof.Proof.Gen.KernelIdeal.Skeleton
public import proofs.«01_k».proof.Proof.Gen.ReferenceIdeal
public import proofs.«01_k».proof.Proof.Gen.Reference
public import proofs.«01_k».proof.Proof.Gen.ReferenceIdeal.Run
public import proofs.«01_k».proof.Proof.Gen.Reference.Run
public import proofs.«01_k».proof.Proof.KernelRun
public import proofs.«01_k».proof.Proof.Take
public import Idealize.ShloMosaic.Adequacy
public import Idealize.ShloMosaic.Init

@[expose] public section

noncomputable section

namespace Cert.Proof

open Idealize.ShloMosaic Idealize.SL.Sem Cert.Kernel

/-- Every fair run of the kernel ends, faults nowhere, and leaves both arguments as they were and every semaphore at
    zero. -/
theorem frame_kernel : Cert.quiescent_Kernel := fun m ρ _ =>
  (θ_run Cert.KernelIdeal.defs _ _).mono (fun _ h => ⟨fun c => (h.1 c).2, h.2⟩) (KernelRun.run_main (F := Bits) m ρ)

/-- The same over exact numbers. -/
theorem frame_kernelIdeal : Cert.quiescent_KernelIdeal := fun m ρ _ =>
  (θ_run Cert.KernelIdeal.defs _ _).mono (fun _ h => ⟨fun c => (h.1 c).2, h.2⟩) (KernelRun.run_main (F := Ideal) m ρ)

/-- Every run of the reference ends and leaves both arguments as they were, over exact numbers; it declares no
    semaphore. -/
theorem frame_referenceIdeal : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- The same over machine floats. -/
theorem frame_reference : Cert.quiescent_Reference := fun m ρ _ =>
  (θ_run Cert.Reference.defs _ _).mono (fun r h => ⟨fun c => (h c).2, sem_eq_zero_of_no_sems (by decide) r.2⟩)
    (Cert.Reference.Value.run (F := Bits) m ρ)

/-- Over exact numbers the kernel's result is the reference's: both are the table under a leading unit axis. -/
theorem algebraic : Cert.algebraic_KernelIdeal_ReferenceIdeal := fun m ρ m' ρ' _ hin =>
  ⟨fun c => KernelRun.lead (KernelRun.copied m c),
    (θ_run Cert.KernelIdeal.defs _ _).mono (fun _ h c => h.1 c) (KernelRun.run_main (F := Ideal) m ρ),
    (θ_run Cert.ReferenceIdeal.defs _ _).mono
      (fun _ h c => ⟨(h c).1.trans ((Take.take _ _).trans (congrArg KernelRun.lead (hin c).2)), (h c).2⟩)
      (Cert.ReferenceIdeal.Value.run (F := Ideal) m' ρ')⟩

/-- Bit for bit the kernel's result is the reference's: both are the table under a leading unit axis. -/
theorem bitexact : Cert.bitexact_Kernel_Reference := fun m ρ m' ρ' _ hin =>
  ⟨fun c => KernelRun.lead (KernelRun.copied m c),
    (θ_run Cert.KernelIdeal.defs _ _).mono (fun _ h c => h.1 c) (KernelRun.run_main (F := Bits) m ρ),
    (θ_run Cert.Reference.defs _ _).mono
      (fun _ h c => ⟨(h c).1.trans ((Take.take _ _).trans (congrArg KernelRun.lead (hin c).2)), (h c).2⟩)
      (Cert.Reference.Value.run (F := Bits) m' ρ')⟩

/-- The seven claims. -/
theorem claim : Cert.Claim :=
  ⟨Cert.Kernel.Gen.facts, Cert.KernelIdeal.Gen.facts, Cert.ReferenceIdeal.Gen.facts, Cert.Reference.Gen.facts,
    frame_kernel, frame_kernelIdeal, frame_referenceIdeal, frame_reference, trivial, algebraic, bitexact⟩

end Cert.Proof

end
